-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16x128x128x48 : Shape := ⟨5, ![4, 16, 128, 128, 48]⟩
abbrev S16x128x128x48 : Shape := ⟨4, ![16, 128, 128, 48]⟩
abbrev S16x4 : Shape := ⟨2, ![16, 4]⟩
abbrev S16x1x4 : Shape := ⟨3, ![16, 1, 4]⟩
abbrev S4x16x128x48x128 : Shape := ⟨5, ![4, 16, 128, 48, 128]⟩
abbrev S16x128x48x128 : Shape := ⟨4, ![16, 128, 48, 128]⟩
abbrev S1x1x4 : Shape := ⟨3, ![1, 1, 4]⟩
abbrev S4x1x16x48x128 : Shape := ⟨5, ![4, 1, 16, 48, 128]⟩
abbrev S1x16x48x128 : Shape := ⟨4, ![1, 16, 48, 128]⟩
abbrev S1x1 : Shape := ⟨2, ![1, 1]⟩
abbrev S1x1x1 : Shape := ⟨3, ![1, 1, 1]⟩
abbrev S16x48x128 : Shape := ⟨3, ![16, 48, 128]⟩
abbrev S1x1x16x48x128 : Shape := ⟨5, ![1, 1, 16, 48, 128]⟩

abbrev nBuf : Space → Nat
  | .hbm => 18
  | .vmem => 18
  | .smem => 0
  | _ => 0

abbrev bufTy : (tb : Table) → Fin (tcTables nBuf tb) → BufTy
  | .hbm, ⟨0, _⟩ => ⟨S4x16x128x128x48, .f32⟩
  | .hbm, ⟨1, _⟩ => ⟨S4x16x128x128x48, .f32⟩
  | .hbm, ⟨2, _⟩ => ⟨S16x128x128x48, .f32⟩
  | .hbm, ⟨3, _⟩ => ⟨S16x128x128x48, .f32⟩
  | .hbm, ⟨4, _⟩ => ⟨S16x4, .f32⟩
  | .hbm, ⟨5, _⟩ => ⟨S16x1x4, .f32⟩
  | .hbm, ⟨6, _⟩ => ⟨S4x16x128x48x128, .f32⟩
  | .hbm, ⟨7, _⟩ => ⟨S4x16x128x48x128, .f32⟩
  | .hbm, ⟨8, _⟩ => ⟨S16x128x48x128, .f32⟩
  | .hbm, ⟨9, _⟩ => ⟨S16x128x48x128, .f32⟩
  | .hbm, ⟨10, _⟩ => ⟨S16x128x48x128, .f32⟩
  | .hbm, ⟨11, _⟩ => ⟨S16x128x48x128, .f32⟩
  | .hbm, ⟨12, _⟩ => ⟨S4x16x128x48x128, .f32⟩
  | .hbm, ⟨13, _⟩ => ⟨S4x16x128x48x128, .f32⟩
  | .hbm, ⟨14, _⟩ => ⟨S16x128x128x48, .f32⟩
  | .hbm, ⟨15, _⟩ => ⟨S16x128x128x48, .f32⟩
  | .hbm, ⟨16, _⟩ => ⟨S4x16x128x128x48, .f32⟩
  | .hbm, ⟨17, _⟩ => ⟨S4x16x128x128x48, .f32⟩
  | .local _ .vmem, ⟨0, _⟩ => ⟨S1x1x4, .f32⟩
  | .local _ .vmem, ⟨1, _⟩ => ⟨S1x1x4, .f32⟩
  | .local _ .vmem, ⟨2, _⟩ => ⟨S4x1x16x48x128, .f32⟩
  | .local _ .vmem, ⟨3, _⟩ => ⟨S4x1x16x48x128, .f32⟩
  | .local _ .vmem, ⟨4, _⟩ => ⟨S4x1x16x48x128, .f32⟩
  | .local _ .vmem, ⟨5, _⟩ => ⟨S4x1x16x48x128, .f32⟩
  | .local _ .vmem, ⟨6, _⟩ => ⟨S1x16x48x128, .f32⟩
  | .local _ .vmem, ⟨7, _⟩ => ⟨S1x16x48x128, .f32⟩
  | .local _ .vmem, ⟨8, _⟩ => ⟨S1x16x48x128, .f32⟩
  | .local _ .vmem, ⟨9, _⟩ => ⟨S1x16x48x128, .f32⟩
  | .local _ .vmem, ⟨10, _⟩ => ⟨S1x16x48x128, .f32⟩
  | .local _ .vmem, ⟨11, _⟩ => ⟨S1x16x48x128, .f32⟩
  | .local _ .vmem, ⟨12, _⟩ => ⟨S1x16x48x128, .f32⟩
  | .local _ .vmem, ⟨13, _⟩ => ⟨S1x16x48x128, .f32⟩
  | .local _ .vmem, ⟨14, _⟩ => ⟨S4x1x16x48x128, .f32⟩
  | .local _ .vmem, ⟨15, _⟩ => ⟨S4x1x16x48x128, .f32⟩
  | .local _ .vmem, ⟨16, _⟩ => ⟨S4x1x16x48x128, .f32⟩
  | .local _ .vmem, ⟨17, _⟩ => ⟨S4x1x16x48x128, .f32⟩
  | _, _ => ⟨S4x16x128x128x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S1x1x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x16x48x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x16x48x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x48x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x48x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x48x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x48x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x16x48x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1x16x48x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x16x128x128x48 : Shape := ⟨5, ![4, 16, 128, 128, 48]⟩
abbrev S16x128x128x48 : Shape := ⟨4, ![16, 128, 128, 48]⟩
abbrev S16x4 : Shape := ⟨2, ![16, 4]⟩
abbrev S_ : Shape := ⟨0, ![]⟩
abbrev S16 : Shape := ⟨1, ![16]⟩
abbrev S16x1 : Shape := ⟨2, ![16, 1]⟩
abbrev S4x16 : Shape := ⟨2, ![4, 16]⟩
abbrev S4x16x1x1x1 : Shape := ⟨5, ![4, 16, 1, 1, 1]⟩
abbrev S1x16x128x128x48 : Shape := ⟨5, ![1, 16, 128, 128, 48]⟩

abbrev nBuf : Space → Nat
  | .hbm => 99
  | .vmem => 0
  | .smem => 0
  | _ => 0

abbrev bufTy : (tb : Table) → Fin (tcTables nBuf tb) → BufTy
  | .hbm, ⟨0, _⟩ => ⟨S4x16x128x128x48, .f32⟩
  | .hbm, ⟨1, _⟩ => ⟨S4x16x128x128x48, .f32⟩
  | .hbm, ⟨2, _⟩ => ⟨S16x128x128x48, .f32⟩
  | .hbm, ⟨3, _⟩ => ⟨S16x128x128x48, .f32⟩
  | .hbm, ⟨4, _⟩ => ⟨S16x4, .f32⟩
  | .hbm, ⟨5, _⟩ => ⟨S_, .f32⟩
  | .hbm, ⟨6, _⟩ => ⟨S16x4, .f32⟩
  | .hbm, ⟨7, _⟩ => ⟨S16x4, .f32⟩
  | .hbm, ⟨8, _⟩ => ⟨S_, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16x1, .f32⟩
  | .hbm, ⟨14, _⟩ => ⟨S16x4, .f32⟩
  | .hbm, ⟨15, _⟩ => ⟨S16x4, .f32⟩
  | .hbm, ⟨16, _⟩ => ⟨S16x4, .f32⟩
  | .hbm, ⟨17, _⟩ => ⟨S_, .f32⟩
  | .hbm, ⟨18, _⟩ => ⟨S16, .f32⟩
  | .hbm, ⟨19, _⟩ => ⟨S16x1, .f32⟩
  | .hbm, ⟨20, _⟩ => ⟨S16x4, .f32⟩
  | .hbm, ⟨21, _⟩ => ⟨S16x4, .f32⟩
  | .hbm, ⟨22, _⟩ => ⟨S16x128x128x48, .f32⟩
  | .hbm, ⟨23, _⟩ => ⟨S_, .f32⟩
  | .hbm, ⟨24, _⟩ => ⟨S16x4, .f32⟩
  | .hbm, ⟨25, _⟩ => ⟨S16x4, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16x1, .f32⟩
  | .hbm, ⟨32, _⟩ => ⟨S16x4, .f32⟩
  | .hbm, ⟨33, _⟩ => ⟨S16x4, .f32⟩
  | .hbm, ⟨34, _⟩ => ⟨S16x4, .f32⟩
  | .hbm, ⟨35, _⟩ => ⟨S_, .f32⟩
  | .hbm, ⟨36, _⟩ => ⟨S16, .f32⟩
  | .hbm, ⟨37, _⟩ => ⟨S16x1, .f32⟩
  | .hbm, ⟨38, _⟩ => ⟨S16x4, .f32⟩
  | .hbm, ⟨39, _⟩ => ⟨S16x4, .f32⟩
  | .hbm, ⟨40, _⟩ => ⟨S16x128x128x48, .f32⟩
  | .hbm, ⟨41, _⟩ => ⟨S_, .f32⟩
  | .hbm, ⟨42, _⟩ => ⟨S16x4, .f32⟩
  | .hbm, ⟨43, _⟩ => ⟨S16x4, .f32⟩
  | .hbm, ⟨44, _⟩ => ⟨S_, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16x1, .f32⟩
  | .hbm, ⟨50, _⟩ => ⟨S16x4, .f32⟩
  | .hbm, ⟨51, _⟩ => ⟨S16x4, .f32⟩
  | .hbm, ⟨52, _⟩ => ⟨S16x4, .f32⟩
  | .hbm, ⟨53, _⟩ => ⟨S_, .f32⟩
  | .hbm, ⟨54, _⟩ => ⟨S16, .f32⟩
  | .hbm, ⟨55, _⟩ => ⟨S16x1, .f32⟩
  | .hbm, ⟨56, _⟩ => ⟨S16x4, .f32⟩
  | .hbm, ⟨57, _⟩ => ⟨S16x4, .f32⟩
  | .hbm, ⟨58, _⟩ => ⟨S4x16, .f32⟩
  | .hbm, ⟨59, _⟩ => ⟨S4x16x1x1x1, .f32⟩
  | .hbm, ⟨60, _⟩ => ⟨S_, .f32⟩
  | .hbm, ⟨61, _⟩ => ⟨S4x16x1x1x1, .f32⟩
  | .hbm, ⟨62, _⟩ => ⟨S4x16x1x1x1, .f32⟩
  | .hbm, ⟨63, _⟩ => ⟨S4x16x128x128x48, .f32⟩
  | .hbm, ⟨64, _⟩ => ⟨S4x16x128x128x48, .f32⟩
  | .hbm, ⟨65, _⟩ => ⟨S1x16x128x128x48, .f32⟩
  | .hbm, ⟨66, _⟩ => ⟨S4x16x128x128x48, .f32⟩
  | .hbm, ⟨67, _⟩ => ⟨S4x16x128x128x48, .f32⟩
  | .hbm, ⟨68, _⟩ => ⟨S4x16x128x128x48, .f32⟩
  | .hbm, ⟨69, _⟩ => ⟨S4x16x128x128x48, .f32⟩
  | .hbm, ⟨70, _⟩ => ⟨S_, .f32⟩
  | .hbm, ⟨71, _⟩ => ⟨S16x4, .f32⟩
  | .hbm, ⟨72, _⟩ => ⟨S16x4, .f32⟩
  | .hbm, ⟨73, _⟩ => ⟨S_, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S16x1, .f32⟩
  | .hbm, ⟨79, _⟩ => ⟨S16x4, .f32⟩
  | .hbm, ⟨80, _⟩ => ⟨S16x4, .f32⟩
  | .hbm, ⟨81, _⟩ => ⟨S16x4, .f32⟩
  | .hbm, ⟨82, _⟩ => ⟨S_, .f32⟩
  | .hbm, ⟨83, _⟩ => ⟨S16, .f32⟩
  | .hbm, ⟨84, _⟩ => ⟨S16x1, .f32⟩
  | .hbm, ⟨85, _⟩ => ⟨S16x4, .f32⟩
  | .hbm, ⟨86, _⟩ => ⟨S16x4, .f32⟩
  | .hbm, ⟨87, _⟩ => ⟨S4x16, .f32⟩
  | .hbm, ⟨88, _⟩ => ⟨S4x16x1x1x1, .f32⟩
  | .hbm, ⟨89, _⟩ => ⟨S_, .f32⟩
  | .hbm, ⟨90, _⟩ => ⟨S4x16x1x1x1, .f32⟩
  | .hbm, ⟨91, _⟩ => ⟨S4x16x1x1x1, .f32⟩
  | .hbm, ⟨92, _⟩ => ⟨S4x16x128x128x48, .f32⟩
  | .hbm, ⟨93, _⟩ => ⟨S4x16x128x128x48, .f32⟩
  | .hbm, ⟨94, _⟩ => ⟨S1x16x128x128x48, .f32⟩
  | .hbm, ⟨95, _⟩ => ⟨S4x16x128x128x48, .f32⟩
  | .hbm, ⟨96, _⟩ => ⟨S4x16x128x128x48, .f32⟩
  | .hbm, ⟨97, _⟩ => ⟨S4x16x128x128x48, .f32⟩
  | .hbm, ⟨98, _⟩ => ⟨S4x16x128x128x48, .f32⟩
  | _, _ => ⟨S4x16x128x128x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Proof.Weights.lean ====
module

public import proofs.«01_k».proof.Proof.Gen.KernelIdeal.Skeleton
public import Idealize.ShloMosaic.Lib.Pointwise

/-! The softmax of the four class logits of a batch entry, and the kernel body's two rows of weights as that softmax. -/

@[expose] public section

set_option maxRecDepth 16384

noncomputable section

namespace Cert.Memory

open Idealize.ShloMosaic Idealize.ShloMosaic.TcCoe Idealize.SL.Sem

/-- The largest of four scaled logits. -/
def rowMax (s : EReal) (x : Fin 4 → EReal) : EReal :=
  Finset.univ.fold max (Ideal.ofBits .f32 0xFF800000#32) fun k => x k * s

/-- The exponential of one scaled logit, with the row's largest one subtracted. -/
def rowExp (s : EReal) (x : Fin 4 → EReal) (c : Fin 4) : EReal :=
  Ideal.exp (x c * s - rowMax s x)

/-- The softmax of four logits scaled by `s`, at class `c`. -/
def weight (s : EReal) (x : Fin 4 → EReal) (c : Fin 4) : EReal :=
  Ideal.div (rowExp s x c) (∑ k : Fin 4, rowExp s x k)

/-- The factor of the logits in the gather, the real number 3. -/
abbrev gatherBeta : EReal := Ideal.ofBits .f32 0x40400000#32
/-- The factor of the logits in the scatter, the real number that the float word of 1e10 is. -/
abbrev scatterBeta : EReal := Ideal.ofBits .f32 0x501502F9#32

end Cert.Memory

namespace Cert.KernelIdeal.Pure

open Cert.KernelIdeal Cert.KernelIdeal.Gen Cert.Memory
open Idealize.ShloMosaic Idealize.ShloMosaic.TcCoe Idealize.SL.Sem

/-- The kernel body's gather weights, from the logits of one batch entry. -/
theorem gather_weights (x : Vec Ideal S1x1x4 .f32) (c : Fin 4) :
    k0_pay6 (F := Ideal) x (ix3 0 0 c) = weight gatherBeta (fun k => x (ix3 0 0 k)) c := by
  pointwise! [k0_pay6, k0_pay5, weight, rowExp, rowMax, gatherBeta, scatterBeta]

/-- The kernel body's scatter weights, from the logits of one batch entry. -/
theorem scatter_weights (x : Vec Ideal S1x1x4 .f32) (c : Fin 4) :
    k0_pay7 (F := Ideal) x (ix3 0 0 c) = weight scatterBeta (fun k => x (ix3 0 0 k)) c := by
  pointwise! [k0_pay7, k0_pay5, weight, rowExp, rowMax, gatherBeta, scatterBeta]

end Cert.KernelIdeal.Pure

end
-- ==== Proof.Blocks.lean ====
module

public import proofs.«01_k».proof.Proof.Gen.KernelIdeal.Frame
public import proofs.«01_k».proof.Proof.Weights
public import Idealize.ShloMosaic.Lib.Pointwise
public import Idealize.ShloMosaic.Lib.Pipeline.ValueKit

/-! What the kernel body leaves in its four output blocks at one grid point, as a formula over its five input blocks. -/

@[expose] public section

set_option maxRecDepth 16384

noncomputable section

namespace Cert.KernelIdeal.Pure

open Cert.KernelIdeal Cert.KernelIdeal.Gen Cert.Memory
open Idealize.ShloMosaic Idealize.ShloMosaic.TcCoe Idealize.SL.Sem

variable (lg : Vec Ideal S1x1x4 .f32) (sh sc : Vec Ideal S4x1x16x48x128 .f32) (nh nv : Vec Ideal S1x16x48x128 .f32)

/-- The logits of the batch entry that a grid point works on. -/
abbrev blockRow : Fin 4 → EReal := fun k => lg (ix3 0 0 k)

/-- The block of the first gather: the sum over the classes of the state times its gather weight. -/
theorem block_gather_h (r : Fin 16) (o : Fin 48) (w : Fin 128) :
    out0_5 lg sh sc nh nv (ix4 0 r o w)
      = ∑ c : Fin 4, weight gatherBeta (blockRow lg) c * sh (ix5 c 0 r o w) := by
  frame_out
  pointwise [k0_pay3, k0_pay10, k0_pay12, k0_pay16, k0_pay18, k0_pay20, k0_pay24, k0_pay26, k0_pay28, k0_pay34,
      k0_pay36, k0_pay38, k0_pay41, k0_pay45, k0_pay46, gather_weights]
  rw [Fin.sum_univ_four]
  simp only [mul_comm (weight _ _ _)]

/-- The block of the second gather: the sum over the classes of the state times its gather weight. -/
theorem block_gather_c (r : Fin 16) (o : Fin 48) (w : Fin 128) :
    out0_6 lg sh sc nh nv (ix4 0 r o w)
      = ∑ c : Fin 4, weight gatherBeta (blockRow lg) c * sc (ix5 c 0 r o w) := by
  frame_out
  pointwise [k0_pay4, k0_pay11, k0_pay12, k0_pay17, k0_pay19, k0_pay20, k0_pay25, k0_pay27, k0_pay28, k0_pay35,
      k0_pay37, k0_pay38, k0_pay41, k0_pay47, k0_pay48, k0_pay49, gather_weights]
  rw [Fin.sum_univ_four]
  simp only [mul_comm (weight _ _ _)]

/-- The block of the first scatter: class by class, the old state and the new one blended by the scatter weight. -/
theorem block_scatter_h (c : Fin 4) (r : Fin 16) (o : Fin 48) (w : Fin 128) :
    out0_7 lg sh sc nh nv (ix5 c 0 r o w)
      = sh (ix5 c 0 r o w) * (1 - weight scatterBeta (blockRow lg) c)
        + nh (ix4 0 r o w) * weight scatterBeta (blockRow lg) c := by
  frame_out
  canon_tiles x h
  all_goals
    idx_vars x
    obtain rfl : r = x2 := Fin.ext h2
    obtain rfl : o = x3 := Fin.ext h3
    obtain rfl : w = x4 := Fin.ext h4
  · obtain rfl : c = 3 := Fin.ext (show (c : ℕ) = 3 by omega)
    pointwise [k0_pay1, k0_pay8, k0_pay36, k0_pay39, k0_pay40, k0_pay42, k0_pay43, scatter_weights]
  · obtain rfl : c = 2 := Fin.ext (show (c : ℕ) = 2 by omega)
    pointwise [k0_pay8, k0_pay26, k0_pay29, k0_pay30, k0_pay31, k0_pay32, k0_pay42, k0_pay43, scatter_weights]
  · obtain rfl : c = 1 := Fin.ext (show (c : ℕ) = 1 by omega)
    pointwise [k0_pay8, k0_pay18, k0_pay21, k0_pay22, k0_pay42, k0_pay43, k0_pay46, scatter_weights]
  · obtain rfl : c = 0 := Fin.ext (show (c : ℕ) = 0 by omega)
    pointwise [k0_pay8, k0_pay10, k0_pay13, k0_pay14, k0_pay42, k0_pay43, k0_pay45, scatter_weights]

/-- The block of the second scatter: class by class, the old state and the new one blended by the scatter weight. -/
theorem block_scatter_c (c : Fin 4) (r : Fin 16) (o : Fin 48) (w : Fin 128) :
    out0_8 lg sh sc nh nv (ix5 c 0 r o w)
      = sc (ix5 c 0 r o w) * (1 - weight scatterBeta (blockRow lg) c)
        + nv (ix4 0 r o w) * weight scatterBeta (blockRow lg) c := by
  frame_out
  canon_tiles x h
  all_goals
    idx_vars x
    obtain rfl : r = x2 := Fin.ext h2
    obtain rfl : o = x3 := Fin.ext h3
    obtain rfl : w = x4 := Fin.ext h4
  · obtain rfl : c = 3 := Fin.ext (show (c : ℕ) = 3 by omega)
    pointwise [k0_pay2, k0_pay9, k0_pay37, k0_pay39, k0_pay42, k0_pay44, k0_pay49, scatter_weights]
  · obtain rfl : c = 2 := Fin.ext (show (c : ℕ) = 2 by omega)
    pointwise [k0_pay9, k0_pay27, k0_pay29, k0_pay33, k0_pay42, k0_pay44, k0_pay48, scatter_weights]
  · obtain rfl : c = 1 := Fin.ext (show (c : ℕ) = 1 by omega)
    pointwise [k0_pay9, k0_pay19, k0_pay21, k0_pay23, k0_pay42, k0_pay44, k0_pay47, scatter_weights]
  · obtain rfl : c = 0 := Fin.ext (show (c : ℕ) = 0 by omega)
    pointwise [k0_pay9, k0_pay11, k0_pay13, k0_pay15, k0_pay42, k0_pay44, scatter_weights]

end Cert.KernelIdeal.Pure

end
-- ==== Proof.Reference.lean ====
module

public import proofs.«01_k».proof.Proof.Gen.ReferenceIdeal.Run
public import proofs.«01_k».proof.Proof.Weights
public import Idealize.ShloMosaic.Lib.Pointwise

/-! The reference's gather and scatter as functions of the whole arrays, and their values at an index. -/

@[expose] public section

set_option maxRecDepth 16384

noncomputable section

namespace Cert.ReferenceIdeal.Pure

open Cert.ReferenceIdeal Cert.ReferenceIdeal.Gen Cert.Memory
open Idealize.ShloMosaic Idealize.ShloMosaic.TcCoe Idealize.SL.Sem

/-- The reference's softmax of the logits scaled by the constant whose float word is `s`. -/
def refWeights (s : BitVec 32) (L : FVec Ideal S16x4 .f32) : FVec Ideal S16x4 .f32 :=
  Host.divf (Host.exp (subf (mulf L (broadcastInDim S16x4 ![] bcast_S_S16x4 (constant S_ .f32 s))) (broadcastInDim S16x4 ![0, 1] bcast_S16x1_S16x4_0_1 (broadcastInDim S16x1 ![0] bcast_S16_S16x1_0 (maximumf (broadcastInDim S16 ![] bcast_S_S16 (constant S_ .f32 0xFF800000#32)) (Host.reduce FloatOps.maximumf (mulf L (broadcastInDim S16x4 ![] bcast_S_S16x4 (constant S_ .f32 s))) (constant S_ .f32 0xFF800000#32) reducesTo_S16x4_S16_d1 h_S_)))))) (broadcastInDim S16x4 ![0, 1] bcast_S16x1_S16x4_0_1 (broadcastInDim S16x1 ![0] bcast_S16_S16x1_0 (Host.reduceAdd (Host.exp (subf (mulf L (broadcastInDim S16x4 ![] bcast_S_S16x4 (constant S_ .f32 s))) (broadcastInDim S16x4 ![0, 1] bcast_S16x1_S16x4_0_1 (broadcastInDim S16x1 ![0] bcast_S16_S16x1_0 (maximumf (broadcastInDim S16 ![] bcast_S_S16 (constant S_ .f32 0xFF800000#32)) (Host.reduce FloatOps.maximumf (mulf L (broadcastInDim S16x4 ![] bcast_S_S16x4 (constant S_ .f32 s))) (constant S_ .f32 0xFF800000#32) reducesTo_S16x4_S16_d1 h_S_)))))) (constant S_ .f32 0x00000000#32) reducesTo_S16x4_S16_d1 h_S_)))

/-- The reference's gather: the classes of `S` summed with the softmax of the logits as weights. -/
def refGather (S : FVec Ideal S4x16x128x128x48 .f32) (L : FVec Ideal S16x4 .f32) : FVec Ideal S16x128x128x48 .f32 :=
  Host.dotGeneral dot_S16x4_S4x16x128x128x48_S16x128x128x48_1_0_n_234_0_1 none (refWeights 0x40400000#32 L) S

/-- The reference's scatter: each class of `S` blended with the new state `N` by its softmax weight. -/
def refScatter (S : FVec Ideal S4x16x128x128x48 .f32) (N : FVec Ideal S16x128x128x48 .f32) (L : FVec Ideal S16x4 .f32) :
    FVec Ideal S4x16x128x128x48 .f32 :=
  addf (mulf S (broadcastInDim S4x16x128x128x48 ![0, 1, 2, 3, 4] bcast_S4x16x1x1x1_S4x16x128x128x48_0_1_2_3_4 (subf (broadcastInDim S4x16x1x1x1 ![] bcast_S_S4x16x1x1x1 (constant S_ .f32 0x3F800000#32)) (broadcastInDim S4x16x1x1x1 ![0, 1] bcast_S4x16_S4x16x1x1x1_0_1 (transpose S4x16 [1, 0] (refWeights 0x501502F9#32 L) transposes_S16x4_S4x16_1_0))))) (mulf (broadcastInDim S4x16x128x128x48 ![0, 1, 2, 3, 4] bcast_S1x16x128x128x48_S4x16x128x128x48_0_1_2_3_4 (broadcastInDim S1x16x128x128x48 ![1, 2, 3, 4] bcast_S16x128x128x48_S1x16x128x128x48_1_2_3_4 N)) (broadcastInDim S4x16x128x128x48 ![0, 1, 2, 3, 4] bcast_S4x16x1x1x1_S4x16x128x128x48_0_1_2_3_4 (broadcastInDim S4x16x1x1x1 ![0, 1] bcast_S4x16_S4x16x1x1x1_0_1 (transpose S4x16 [1, 0] (refWeights 0x501502F9#32 L) transposes_S16x4_S4x16_1_0))))

/-- A maximum that starts at `a` is at least `a`. -/
theorem max_fold (a : EReal) (f : Fin 4 → EReal) :
    max a (Finset.univ.fold max a f) = Finset.univ.fold max a f :=
  max_eq_right ((Finset.le_fold_max _).2 (Or.inl le_rfl))

/-- The reference's weights at an index are the softmax of that batch entry's four logits. -/
theorem refWeights_at (s : BitVec 32) (L : FVec Ideal S16x4 .f32) (b : Fin 16) (c : Fin 4) :
    refWeights s L (ix2 b c) = weight (Ideal.ofBits .f32 s) (fun k => L (ix2 b k)) c := by
  pointwise [refWeights, weight, rowExp, rowMax, max_fold]

/-- The gather at an index. -/
theorem refGather_at (S : FVec Ideal S4x16x128x128x48 .f32) (L : FVec Ideal S16x4 .f32)
    (b : Fin 16) (h w : Fin 128) (o : Fin 48) :
    refGather S L (ix4 b h w o) = ∑ c : Fin 4, weight gatherBeta (fun k => L (ix2 b k)) c * S (ix5 c b h w o) := by
  pointwise [refGather, refWeights_at]

/-- The scatter at an index. -/
theorem refScatter_at (S : FVec Ideal S4x16x128x128x48 .f32) (N : FVec Ideal S16x128x128x48 .f32)
    (L : FVec Ideal S16x4 .f32) (c : Fin 4) (b : Fin 16) (h w : Fin 128) (o : Fin 48) :
    refScatter S N L (ix5 c b h w o)
      = S (ix5 c b h w o) * (1 - weight scatterBeta (fun k => L (ix2 b k)) c)
        + N (ix4 b h w o) * weight scatterBeta (fun k => L (ix2 b k)) c := by
  pointwise [refScatter, refWeights_at]

end Cert.ReferenceIdeal.Pure

end
-- ==== Proof.Arrays.lean ====
module

public import proofs.«01_k».proof.Proof.Blocks
public import proofs.«01_k».proof.Proof.Reference
public import Idealize.ShloMosaic.Lib.Claim

/-! The four arrays the kernel's grid leaves behind, as the reference's functions of the arguments. -/

@[expose] public section

set_option maxRecDepth 16384

noncomputable section

namespace Cert.KernelIdeal.Pure

open Cert.KernelIdeal Cert.KernelIdeal.Gen Cert.Memory
open Cert.ReferenceIdeal.Pure (refGather refScatter refGather_at refScatter_at)
open Idealize.ShloMosaic Idealize.ShloMosaic.TcCoe Idealize.ShloMosaic.Pipeline Idealize.SL.Sem

variable (m : (ℓ : Loc nD τ sig) → Buf (Elt Ideal) ℓ) (d : Dev nD)

/-- The block each grid point works on in every window: batch entry `t / 8`, row block `t % 8`. -/
theorem idx : ∀ t : Fin cfg0.N,
    win0_0.index t = ![t.val / 8, 0, 0]
    ∧ win0_1.index t = ![0, t.val / 8, t.val % 8, 0, 0]
    ∧ win0_2.index t = ![0, t.val / 8, t.val % 8, 0, 0]
    ∧ win0_3.index t = ![t.val / 8, t.val % 8, 0, 0]
    ∧ win0_4.index t = ![t.val / 8, t.val % 8, 0, 0]
    ∧ win0_5.index t = ![t.val / 8, t.val % 8, 0, 0]
    ∧ win0_6.index t = ![t.val / 8, t.val % 8, 0, 0]
    ∧ win0_7.index t = ![0, t.val / 8, t.val % 8, 0, 0]
    ∧ win0_8.index t = ![0, t.val / 8, t.val % 8, 0, 0] :=
  (by decide +kernel : ∀ t : Fin grid0.N, _)

/-- There are 128 grid points. -/
theorem point_lt (t : Fin cfg0.N) : t.val < 128 := t.isLt

/-- The batch entry of a grid point. -/
def batch (t : Fin cfg0.N) : Fin 16 := ⟨t.val / 8, by have := point_lt t; omega⟩

/-- The row of the image that row `r` of a grid point's block is. -/
def row (t : Fin cfg0.N) (r : Fin 16) : Fin 128 := ⟨t.val % 8 * 16 + r.val, by omega⟩

/-- The logits the region reads: the argument with an axis put in. -/
theorem V_logits : V m d main_v0
    = shapeCast S16x1x4 (m ((d.tc : Thread nD τ).loc main_arg4)) shapeCasts_S16x4_S16x1x4 := by
  entry_read
  rfl

/-- The first state the region reads: the argument with its last two axes exchanged. -/
theorem V_state_h : V m d main_v1 = transpose S4x16x128x48x128 [0, 1, 2, 4, 3]
    (m ((d.tc : Thread nD τ).loc main_arg0)) transposes_S4x16x128x128x48_S4x16x128x48x128_0_1_2_4_3 := by
  entry_read
  rfl

/-- The second state the region reads: the argument with its last two axes exchanged. -/
theorem V_state_c : V m d main_v2 = transpose S4x16x128x48x128 [0, 1, 2, 4, 3]
    (m ((d.tc : Thread nD τ).loc main_arg1)) transposes_S4x16x128x128x48_S4x16x128x48x128_0_1_2_4_3 := by
  entry_read
  rfl

/-- The first new state the region reads: the argument with its last two axes exchanged. -/
theorem V_new_h : V m d main_v3 = transpose S16x128x48x128 [0, 1, 3, 2]
    (m ((d.tc : Thread nD τ).loc main_arg2)) transposes_S16x128x128x48_S16x128x48x128_0_1_3_2 := by
  entry_read
  rfl

/-- The second new state the region reads: the argument with its last two axes exchanged. -/
theorem V_new_c : V m d main_v4 = transpose S16x128x48x128 [0, 1, 3, 2]
    (m ((d.tc : Thread nD τ).loc main_arg3)) transposes_S16x128x128x48_S16x128x48x128_0_1_3_2 := by
  entry_read
  rfl

/-- The logits' block holds the batch entry's logits. -/
theorem read_logits (t : Fin cfg0.N) (k : Fin 4) :
    iblk m d 0 t (ix3 0 0 k) = m ((d.tc : Thread nD τ).loc main_arg4) (ix2 (batch t) k) := by
  have h : iblk m d 0 t (ix3 0 0 k)
      = V m d main_v0 (ix3 (batch t) 0 k) := by
    blk_ext [iblk, batch, idx t]
  rw [h, V_logits]
  pointwise

/-- The logits of a grid point's block are its batch entry's. -/
theorem read_row (t : Fin cfg0.N) : blockRow (iblk m d 0 t)
    = fun k => m ((d.tc : Thread nD τ).loc main_arg4) (ix2 (batch t) k) :=
  funext fun k => read_logits m d t k

/-- The first state's block, in the caller's layout. -/
theorem read_state_h (t : Fin cfg0.N) (c : Fin 4) (r : Fin 16) (o : Fin 48) (w : Fin 128) :
    iblk m d 1 t (ix5 c 0 r o w)
      = m ((d.tc : Thread nD τ).loc main_arg0) (ix5 c (batch t) (row t r) w o) := by
  have h : iblk m d 1 t (ix5 c 0 r o w)
      = V m d main_v1 (ix5 c (batch t) (row t r) o w) := by
    blk_ext [iblk, batch, row, idx t]
  rw [h, V_state_h]
  pointwise

/-- The second state's block, in the caller's layout. -/
theorem read_state_c (t : Fin cfg0.N) (c : Fin 4) (r : Fin 16) (o : Fin 48) (w : Fin 128) :
    iblk m d 2 t (ix5 c 0 r o w)
      = m ((d.tc : Thread nD τ).loc main_arg1) (ix5 c (batch t) (row t r) w o) := by
  have h : iblk m d 2 t (ix5 c 0 r o w)
      = V m d main_v2 (ix5 c (batch t) (row t r) o w) := by
    blk_ext [iblk, batch, row, idx t]
  rw [h, V_state_c]
  pointwise

/-- The first new state's block, in the caller's layout. -/
theorem read_new_h (t : Fin cfg0.N) (r : Fin 16) (o : Fin 48) (w : Fin 128) :
    iblk m d 3 t (ix4 0 r o w)
      = m ((d.tc : Thread nD τ).loc main_arg2) (ix4 (batch t) (row t r) w o) := by
  have h : iblk m d 3 t (ix4 0 r o w)
      = V m d main_v3 (ix4 (batch t) (row t r) o w) := by
    blk_ext [iblk, batch, row, idx t]
  rw [h, V_new_h]
  pointwise

/-- The second new state's block, in the caller's layout. -/
theorem read_new_c (t : Fin cfg0.N) (r : Fin 16) (o : Fin 48) (w : Fin 128) :
    iblk m d 4 t (ix4 0 r o w)
      = m ((d.tc : Thread nD τ).loc main_arg3) (ix4 (batch t) (row t r) w o) := by
  have h : iblk m d 4 t (ix4 0 r o w)
      = V m d main_v4 (ix4 (batch t) (row t r) o w) := by
    blk_ext [iblk, batch, row, idx t]
  rw [h, V_new_c]
  pointwise

/-- The array of the first gather: the reference's, with its last two axes exchanged. -/
theorem final_gather_h : (dats m 0 d).arrAt 5 (cfgs 0).N
    = transpose S16x128x48x128 [0, 1, 3, 2]
        (refGather (m ((d.tc : Thread nD τ).loc main_arg0)) (m ((d.tc : Thread nD τ).loc main_arg4)))
        transposes_S16x128x128x48_S16x128x48x128_0_1_3_2 := by
  refine (dats m 0 d).arrAt_eq_of_covers 5 _ (by decide +kernel) fun t _ y => ?_
  blk_simp
  rw [after0_5]
  idx_vars y
  obtain rfl : y0 = 0 := Subsingleton.elim _ _
  have e : ((cfg0.win 5).blk t).view.emb (ix4 0 y1 y2 y3) = ix4 (batch t) (row t y1) y2 y3 := by
    blk_ext [batch, row, idx t]
  refine (block_gather_h ..).trans (Eq.trans ?_ (congrArg _ e.symm))
  pointwise [refGather_at, read_row, read_state_h]

/-- The array of the second gather: the reference's, with its last two axes exchanged. -/
theorem final_gather_c : (dats m 0 d).arrAt 6 (cfgs 0).N
    = transpose S16x128x48x128 [0, 1, 3, 2]
        (refGather (m ((d.tc : Thread nD τ).loc main_arg1)) (m ((d.tc : Thread nD τ).loc main_arg4)))
        transposes_S16x128x128x48_S16x128x48x128_0_1_3_2 := by
  refine (dats m 0 d).arrAt_eq_of_covers 6 _ (by decide +kernel) fun t _ y => ?_
  blk_simp
  rw [after0_6]
  idx_vars y
  obtain rfl : y0 = 0 := Subsingleton.elim _ _
  have e : ((cfg0.win 6).blk t).view.emb (ix4 0 y1 y2 y3) = ix4 (batch t) (row t y1) y2 y3 := by
    blk_ext [batch, row, idx t]
  refine (block_gather_c ..).trans (Eq.trans ?_ (congrArg _ e.symm))
  pointwise [refGather_at, read_row, read_state_c]

/-- The array of the first scatter: the reference's, with its last two axes exchanged. -/
theorem final_scatter_h : (dats m 0 d).arrAt 7 (cfgs 0).N
    = transpose S4x16x128x48x128 [0, 1, 2, 4, 3]
        (refScatter (m ((d.tc : Thread nD τ).loc main_arg0)) (m ((d.tc : Thread nD τ).loc main_arg2))
          (m ((d.tc : Thread nD τ).loc main_arg4)))
        transposes_S4x16x128x128x48_S4x16x128x48x128_0_1_2_4_3 := by
  refine (dats m 0 d).arrAt_eq_of_covers 7 _ (by decide +kernel) fun t _ y => ?_
  blk_simp
  rw [after0_7]
  idx_vars y
  obtain rfl : y1 = 0 := Subsingleton.elim _ _
  have e : ((cfg0.win 7).blk t).view.emb (ix5 y0 0 y2 y3 y4) = ix5 y0 (batch t) (row t y2) y3 y4 := by
    blk_ext [batch, row, idx t]
  refine (block_scatter_h ..).trans (Eq.trans ?_ (congrArg _ e.symm))
  pointwise [refScatter_at, read_row, read_state_h, read_new_h]

/-- The array of the second scatter: the reference's, with its last two axes exchanged. -/
theorem final_scatter_c : (dats m 0 d).arrAt 8 (cfgs 0).N
    = transpose S4x16x128x48x128 [0, 1, 2, 4, 3]
        (refScatter (m ((d.tc : Thread nD τ).loc main_arg1)) (m ((d.tc : Thread nD τ).loc main_arg3))
          (m ((d.tc : Thread nD τ).loc main_arg4)))
        transposes_S4x16x128x128x48_S4x16x128x48x128_0_1_2_4_3 := by
  refine (dats m 0 d).arrAt_eq_of_covers 8 _ (by decide +kernel) fun t _ y => ?_
  blk_simp
  rw [after0_8]
  idx_vars y
  obtain rfl : y1 = 0 := Subsingleton.elim _ _
  have e : ((cfg0.win 8).blk t).view.emb (ix5 y0 0 y2 y3 y4) = ix5 y0 (batch t) (row t y2) y3 y4 := by
    blk_ext [batch, row, idx t]
  refine (block_scatter_c ..).trans (Eq.trans ?_ (congrArg _ e.symm))
  pointwise [refScatter_at, read_row, read_state_c, read_new_c]

end Cert.KernelIdeal.Pure

end
-- ==== Proof.Tail.lean ====
module

public import proofs.«01_k».proof.Proof.Gen.KernelIdeal.Frame
public import proofs.«01_k».proof.Proof.Weights
public import Idealize.ShloMosaic.Lib.Claim

/-! The kernel's four results: what the transposes after the grid make of the four arrays it leaves. -/

@[expose] public section

set_option maxRecDepth 16384

noncomputable section

namespace Cert.KernelIdeal.Pure

open Cert.KernelIdeal Cert.KernelIdeal.Gen
open Idealize.ShloMosaic Idealize.ShloMosaic.TcCoe Idealize.ShloMosaic.Pipeline Idealize.SL.Sem

variable (m : (ℓ : Loc nD τ sig) → Buf (Elt Ideal) ℓ) (d : Dev nD)

/-- What the region leaves in every buffer, at the array of window `w`: that window's final array. -/
theorem region_leaves (w : Fin cfg0.W) :
    withArrays (cfgs 0).spec d (V0 m d) (fun w => (dats m 0 d).arrAt w (cfgs 0).N) (Proc.devRef .tc (arrRef spec0 w))
      = (dats m 0 d).arrAt w (cfgs 0).N :=
  withArrays_arr spec0 (by decide) d (V0 m d) (fun w => (dats m 0 d).arrAt w (cfgs 0).N) w

/-- The first result is the array of window 5 with its last two axes exchanged. -/
theorem tail_gather_h : afterTail₀ cfgs (dats m) 0 (V0 m) [hostOps1] d main_v6
    = transpose S16x128x128x48 [0, 1, 3, 2] ((dats m 0 d).arrAt 5 (cfgs 0).N) transposes_S16x128x48x128_S16x128x128x48_0_1_3_2 := by
  have h : ∀ V : Valuation τ sig (Elt Ideal), StableHlo.after [hostOps1].flatten V (Proc.devRef .tc main_v6)
      = transpose S16x128x128x48 [0, 1, 3, 2] (V (Proc.devRef .tc main_v5_0)) transposes_S16x128x48x128_S16x128x128x48_0_1_3_2 := by
    intro V
    entry_read
    rfl
  unfold afterTail₀
  rw [h]
  exact congrArg (transpose S16x128x128x48 [0, 1, 3, 2] · transposes_S16x128x48x128_S16x128x128x48_0_1_3_2) (region_leaves m d 5)

/-- The second result is the array of window 6 with its last two axes exchanged. -/
theorem tail_gather_c : afterTail₀ cfgs (dats m) 0 (V0 m) [hostOps1] d main_v7
    = transpose S16x128x128x48 [0, 1, 3, 2] ((dats m 0 d).arrAt 6 (cfgs 0).N) transposes_S16x128x48x128_S16x128x128x48_0_1_3_2 := by
  have h : ∀ V : Valuation τ sig (Elt Ideal), StableHlo.after [hostOps1].flatten V (Proc.devRef .tc main_v7)
      = transpose S16x128x128x48 [0, 1, 3, 2] (V (Proc.devRef .tc main_v5_1)) transposes_S16x128x48x128_S16x128x128x48_0_1_3_2 := by
    intro V
    entry_read
    rfl
  unfold afterTail₀
  rw [h]
  exact congrArg (transpose S16x128x128x48 [0, 1, 3, 2] · transposes_S16x128x48x128_S16x128x128x48_0_1_3_2) (region_leaves m d 6)

/-- The third result is the array of window 7 with its last two axes exchanged. -/
theorem tail_scatter_h : afterTail₀ cfgs (dats m) 0 (V0 m) [hostOps1] d main_v8
    = transpose S4x16x128x128x48 [0, 1, 2, 4, 3] ((dats m 0 d).arrAt 7 (cfgs 0).N) transposes_S4x16x128x48x128_S4x16x128x128x48_0_1_2_4_3 := by
  have h : ∀ V : Valuation τ sig (Elt Ideal), StableHlo.after [hostOps1].flatten V (Proc.devRef .tc main_v8)
      = transpose S4x16x128x128x48 [0, 1, 2, 4, 3] (V (Proc.devRef .tc main_v5_2)) transposes_S4x16x128x48x128_S4x16x128x128x48_0_1_2_4_3 := by
    intro V
    entry_read
    rfl
  unfold afterTail₀
  rw [h]
  exact congrArg (transpose S4x16x128x128x48 [0, 1, 2, 4, 3] · transposes_S4x16x128x48x128_S4x16x128x128x48_0_1_2_4_3) (region_leaves m d 7)

/-- The fourth result is the array of window 8 with its last two axes exchanged. -/
theorem tail_scatter_c : afterTail₀ cfgs (dats m) 0 (V0 m) [hostOps1] d main_v9
    = transpose S4x16x128x128x48 [0, 1, 2, 4, 3] ((dats m 0 d).arrAt 8 (cfgs 0).N) transposes_S4x16x128x48x128_S4x16x128x128x48_0_1_2_4_3 := by
  have h : ∀ V : Valuation τ sig (Elt Ideal), StableHlo.after [hostOps1].flatten V (Proc.devRef .tc main_v9)
      = transpose S4x16x128x128x48 [0, 1, 2, 4, 3] (V (Proc.devRef .tc main_v5_3)) transposes_S4x16x128x48x128_S4x16x128x128x48_0_1_2_4_3 := by
    intro V
    entry_read
    rfl
  unfold afterTail₀
  rw [h]
  exact congrArg (transpose S4x16x128x128x48 [0, 1, 2, 4, 3] · transposes_S4x16x128x48x128_S4x16x128x128x48_0_1_2_4_3) (region_leaves m d 8)

end Cert.KernelIdeal.Pure

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Tail
public import Idealize.ShloMosaic.Adequacy
public import Idealize.ShloMosaic.Init

@[expose] public section

set_option maxRecDepth 16384

noncomputable section

namespace Cert.Proof

open Idealize.ShloMosaic Idealize.SL.Sem
open Cert.KernelIdeal.Pure Cert.ReferenceIdeal.Pure

/-- Exchanging the last two axes of a four-axis array twice gives the array back. -/
theorem swap_swap4 (x : FVec Ideal Cert.KernelIdeal.S16x128x128x48 .f32) :
    transpose Cert.KernelIdeal.S16x128x128x48 [0, 1, 3, 2]
      (transpose Cert.KernelIdeal.S16x128x48x128 [0, 1, 3, 2] x
        Cert.KernelIdeal.Gen.transposes_S16x128x128x48_S16x128x48x128_0_1_3_2)
      Cert.KernelIdeal.Gen.transposes_S16x128x48x128_S16x128x128x48_0_1_3_2 = x := by
  funext j
  idx_vars j
  pointwise

/-- Exchanging the last two axes of a five-axis array twice gives the array back. -/
theorem swap_swap5 (x : FVec Ideal Cert.KernelIdeal.S4x16x128x128x48 .f32) :
    transpose Cert.KernelIdeal.S4x16x128x128x48 [0, 1, 2, 4, 3]
      (transpose Cert.KernelIdeal.S4x16x128x48x128 [0, 1, 2, 4, 3] x
        Cert.KernelIdeal.Gen.transposes_S4x16x128x128x48_S4x16x128x48x128_0_1_2_4_3)
      Cert.KernelIdeal.Gen.transposes_S4x16x128x48x128_S4x16x128x128x48_0_1_2_4_3 = x := by
  funext j
  idx_vars j
  pointwise

variable (m : (ℓ : Loc Cert.KernelIdeal.nD Cert.KernelIdeal.τ Cert.KernelIdeal.sig) → Buf (Elt Ideal) ℓ)
  (d : Dev Cert.KernelIdeal.nD)

/-- The kernel's first result is the reference's. -/
theorem result_gather_h :
    Pipeline.afterTail₀ Cert.KernelIdeal.cfgs (Cert.KernelIdeal.Gen.dats m) 0 (Cert.KernelIdeal.Gen.V0 m)
        [Cert.KernelIdeal.Gen.hostOps1] d Cert.KernelIdeal.main_v6
      = refGather (m ((d.tc : Thread Cert.KernelIdeal.nD Cert.KernelIdeal.τ).loc Cert.KernelIdeal.main_arg0))
          (m ((d.tc : Thread Cert.KernelIdeal.nD Cert.KernelIdeal.τ).loc Cert.KernelIdeal.main_arg4)) := by
  rw [tail_gather_h, final_gather_h]
  exact swap_swap4 _

/-- The kernel's second result is the reference's. -/
theorem result_gather_c :
    Pipeline.afterTail₀ Cert.KernelIdeal.cfgs (Cert.KernelIdeal.Gen.dats m) 0 (Cert.KernelIdeal.Gen.V0 m)
        [Cert.KernelIdeal.Gen.hostOps1] d Cert.KernelIdeal.main_v7
      = refGather (m ((d.tc : Thread Cert.KernelIdeal.nD Cert.KernelIdeal.τ).loc Cert.KernelIdeal.main_arg1))
          (m ((d.tc : Thread Cert.KernelIdeal.nD Cert.KernelIdeal.τ).loc Cert.KernelIdeal.main_arg4)) := by
  rw [tail_gather_c, final_gather_c]
  exact swap_swap4 _

/-- The kernel's third result is the reference's. -/
theorem result_scatter_h :
    Pipeline.afterTail₀ Cert.KernelIdeal.cfgs (Cert.KernelIdeal.Gen.dats m) 0 (Cert.KernelIdeal.Gen.V0 m)
        [Cert.KernelIdeal.Gen.hostOps1] d Cert.KernelIdeal.main_v8
      = refScatter (m ((d.tc : Thread Cert.KernelIdeal.nD Cert.KernelIdeal.τ).loc Cert.KernelIdeal.main_arg0))
          (m ((d.tc : Thread Cert.KernelIdeal.nD Cert.KernelIdeal.τ).loc Cert.KernelIdeal.main_arg2))
          (m ((d.tc : Thread Cert.KernelIdeal.nD Cert.KernelIdeal.τ).loc Cert.KernelIdeal.main_arg4)) := by
  rw [tail_scatter_h, final_scatter_h]
  exact swap_swap5 _

/-- The kernel's fourth result is the reference's. -/
theorem result_scatter_c :
    Pipeline.afterTail₀ Cert.KernelIdeal.cfgs (Cert.KernelIdeal.Gen.dats m) 0 (Cert.KernelIdeal.Gen.V0 m)
        [Cert.KernelIdeal.Gen.hostOps1] d Cert.KernelIdeal.main_v9
      = refScatter (m ((d.tc : Thread Cert.KernelIdeal.nD Cert.KernelIdeal.τ).loc Cert.KernelIdeal.main_arg1))
          (m ((d.tc : Thread Cert.KernelIdeal.nD Cert.KernelIdeal.τ).loc Cert.KernelIdeal.main_arg3))
          (m ((d.tc : Thread Cert.KernelIdeal.nD Cert.KernelIdeal.τ).loc Cert.KernelIdeal.main_arg4)) := by
  rw [tail_scatter_c, final_scatter_c]
  exact swap_swap5 _

/-- The reference runs, leaves its arguments alone and ends with every counter at zero. -/
theorem reference_frame : Cert.quiescent_ReferenceIdeal := by
  intro m g _
  exact θ_run_mono (Cert.ReferenceIdeal.Value.run m g)
    fun r h => ⟨fun c => (h c).2.2.2.2, sem_eq_zero_of_no_sems (by decide) r.2⟩

set_option maxHeartbeats 1600000 in
/-- Over the extended reals the kernel's four results are the reference's. -/
theorem value : Cert.algebraic_KernelIdeal_ReferenceIdeal := by
  pair_intro
  · run_from Cert.KernelIdeal.Gen.run_main m g
    · exact Cert.KernelIdeal.Gen.W_main_arg0 m _ c
    · exact Cert.KernelIdeal.Gen.W_main_arg1 m _ c
    · exact Cert.KernelIdeal.Gen.W_main_arg2 m _ c
    · exact Cert.KernelIdeal.Gen.W_main_arg3 m _ c
    · exact Cert.KernelIdeal.Gen.W_main_arg4 m _ c
  · run_from Cert.ReferenceIdeal.Value.run m' g'
    · exact (result_gather_h m c).symm
    · exact (result_gather_c m c).symm
    · exact (result_scatter_h m c).symm
    · exact (result_scatter_c m c).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, value⟩

end Cert.Proof

end
